-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x32x32x32 : Shape := ⟨5, ![2, 512, 32, 32, 32]⟩
abbrev S128x128 : Shape := ⟨2, ![128, 128]⟩
abbrev S128x2x4x1024x32 : Shape := ⟨5, ![128, 2, 4, 1024, 32]⟩
abbrev S128x32x2x32x128 : Shape := ⟨5, ![128, 32, 2, 32, 128]⟩
abbrev S1x1x4x1024x32 : Shape := ⟨5, ![1, 1, 4, 1024, 32]⟩
abbrev S1x32x1x32x128 : Shape := ⟨5, ![1, 32, 1, 32, 128]⟩
abbrev S4x1024x32 : Shape := ⟨3, ![4, 1024, 32]⟩
abbrev S1x1024x32 : Shape := ⟨3, ![1, 1024, 32]⟩
abbrev S1024x32 : Shape := ⟨2, ![1024, 32]⟩
abbrev S1024x128 : Shape := ⟨2, ![1024, 128]⟩
abbrev S32x32x128 : Shape := ⟨3, ![32, 32, 128]⟩
abbrev S2x64x64x64x64 : Shape := ⟨5, ![2, 64, 64, 64, 64]⟩

abbrev nBuf : Space → Nat
  | .hbm => 5
  | .vmem => 5
  | .smem => 0
  | _ => 0

abbrev bufTy : (tb : Table) → Fin (tcTables nBuf tb) → BufTy
  | .hbm, ⟨0, _⟩ => ⟨S2x512x32x32x32, .f32⟩
  | .hbm, ⟨1, _⟩ => ⟨S128x128, .f32⟩
  | .hbm, ⟨2, _⟩ => ⟨S128x2x4x1024x32, .f32⟩
  | .hbm, ⟨3, _⟩ => ⟨S128x32x2x32x128, .f32⟩
  | .hbm, ⟨4, _⟩ => ⟨S2x64x64x64x64, .f32⟩
  | .local _ .vmem, ⟨0, _⟩ => ⟨S1x1x4x1024x32, .f32⟩
  | .local _ .vmem, ⟨1, _⟩ => ⟨S1x1x4x1024x32, .f32⟩
  | .local _ .vmem, ⟨2, _⟩ => ⟨S128x128, .f32⟩
  | .local _ .vmem, ⟨3, _⟩ => ⟨S1x32x1x32x128, .f32⟩
  | .local _ .vmem, ⟨4, _⟩ => ⟨S1x32x1x32x128, .f32⟩
  | _, _ => ⟨S2x512x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![128, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x4x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x512x32x32x32 : Shape := ⟨5, ![2, 512, 32, 32, 32]⟩
abbrev S2x64x2x2x2x32x32x32 : Shape := ⟨8, ![2, 64, 2, 2, 2, 32, 32, 32]⟩
abbrev S2x64x32x2x32x2x32x2 : Shape := ⟨8, ![2, 64, 32, 2, 32, 2, 32, 2]⟩
abbrev S2x64x64x64x64 : Shape := ⟨5, ![2, 64, 64, 64, 64]⟩

abbrev nBuf : Space → Nat
  | .hbm => 4
  | .vmem => 0
  | .smem => 0
  | _ => 0

abbrev bufTy : (tb : Table) → Fin (tcTables nBuf tb) → BufTy
  | .hbm, ⟨0, _⟩ => ⟨S2x512x32x32x32, .f32⟩
  | .hbm, ⟨1, _⟩ => ⟨S2x64x2x2x2x32x32x32, .f32⟩
  | .hbm, ⟨2, _⟩ => ⟨S2x64x32x2x32x2x32x2, .f32⟩
  | .hbm, ⟨3, _⟩ => ⟨S2x64x64x64x64, .f32⟩
  | _, _ => ⟨S2x512x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Table.lean ====
/- The constant operand of the product: a 128 × 128 table of 0 and 1 in which column `q` has its one 1 in row
   `srcRow q`. -/
module

public import proofs.«01_k».proof.Proof.Gen.KernelIdeal
public import Idealize.ShloMosaic.PureOps.Ideal.Laws
public import Idealize.ShloMosaic.Lib.IdealHost
public import Idealize.ShloMosaic.Lib.Pointwise

@[expose] public section

noncomputable section

namespace Cert.KernelIdeal.Shuffle

open Idealize.ShloMosaic Cert.KernelIdeal

/-- The row that column `q = 64 j + 2 z + k` picks out: `64 j + 32 k + z`. -/
def srcRow (q : Nat) : Nat := q / 64 * 64 + q % 2 * 32 + q % 64 / 2

/-- Every entry of the printed table, as a number's base-128 digits `p`, `q`: the word of 1.0 where `p` is the row that
    column `q` picks, the zero word elsewhere. Checked entry by entry. -/
theorem word_eq : ∀ p q : Fin 128,
    lit0t (p.val * 128 + q.val) = if p.val = srcRow q.val then 0x3F800000#32 else 0x00000000#32 := by
  decide +kernel

/-- The table read as extended reals at row `p`, column `q`: 1 where `p` is the row that column `q` picks, 0 elsewhere. -/
theorem table_apply (p q : Fin 128) :
    (FloatOps.ofBits (F := Ideal) .f32 (lit0 (S128x128.rowMajor (ix2 p q))) : EReal) = if p.val = srcRow q.val then 1 else 0 := by
  have hv : (S128x128.rowMajor (ix2 p q)).val = p.val * 128 + q.val := Shape.rowMajor_val_two (d := ![128, 128]) _
  have hl : lit0 (S128x128.rowMajor (ix2 p q)) = lit0t (p.val * 128 + q.val) := by
    rw [← hv]
  rw [hl, word_eq]
  split
  · exact Ideal.ofBits_one_f32
  · exact Ideal.ofBits_zero_f32

end Cert.KernelIdeal.Shuffle

end
-- ==== Proof.Block.lean ====
/- What one grid point computes: the product of the four concatenated planes by the table, read at an index, is one
   element of one plane. -/
module

public import proofs.«01_k».proof.Proof.Gen.KernelIdeal.Skeleton
public import proofs.«01_k».proof.Proof.Table

@[expose] public section

noncomputable section

namespace Cert.KernelIdeal.Shuffle

open Idealize.ShloMosaic Cert.KernelIdeal Cert.KernelIdeal.Gen

/-- Column `q` picks a row of the table. -/
theorem srcRow_lt (q : Fin 128) : srcRow q.val < 128 := by
  have := q.isLt; unfold srcRow; omega

/-- The table as the vector that the body loads. -/
abbrev table : Vec Ideal S128x128 .f32 := fun i => FloatOps.ofBits (F := Ideal) .f32 (lit0 (S128x128.rowMajor i))

/-- A sum of products with column `q` of the table is the one factor that the column picks. No finiteness is needed:
    0 · ∞ is 0 in the extended reals. -/
theorem sum_table (f : Fin 128 → EReal) (q : Fin 128) : ∑ p : Fin 128, f p * table (ix2 p q) = f ⟨srcRow q.val, srcRow_lt q⟩ := by
  have ht (p : Fin 128) : table (ix2 p q) = if p.val = srcRow q.val then (1 : EReal) else 0 := table_apply p q
  rw [Finset.sum_eq_single ⟨srcRow q.val, srcRow_lt q⟩]
  · rw [ht, if_pos rfl, mul_one]
  · intro p _ hp
    rw [ht, if_neg (fun e => hp (Fin.ext e)), mul_zero]
  · intro hn; exact absurd (Finset.mem_univ _) hn

/-- The block that a grid point stores, at row `h`, column `w` and lane `q = 64 j + 2 z + k`: the element `z` of row
    `32 h + w` of plane `2 j + k` of the block that it loads. -/
theorem pay_apply (x : Vec Ideal S1x1x4x1024x32 .f32) (h w : Fin 32) (q : Fin 128) :
    k0_pay1 x table (ix5 0 h 0 w q)
      = x (ix5 0 0 ⟨q.val / 64 * 2 + q.val % 2, by omega⟩ ⟨h.val * 32 + w.val, by omega⟩ ⟨q.val % 64 / 2, by omega⟩) := by
  generalize ht : table = t
  pointwise [k0_pay1]
  subst ht
  rw [sum_table (fun p => _) q]
  have hq := q.isLt
  have hr : srcRow q.val = (q.val / 64 * 2 + q.val % 2) * 32 + q.val % 64 / 2 := by unfold srcRow; omega
  dsimp only
  split_ifs
  all_goals
    congr 2 <;> apply Fin.ext <;> simp only [Fin.isValue, Fin.val_zero, Fin.val_one, Fin.val_two] <;> omega

end Cert.KernelIdeal.Shuffle

end
-- ==== Proof.Array.lean ====
/- The kernel's run: what the launched region leaves in its result array, and what the program returns. -/
module

public import proofs.«01_k».proof.Proof.Gen.KernelIdeal.Frame
public import proofs.«01_k».proof.Proof.Block
public import Idealize.ShloMosaic.Lib.Pipeline.ValueKit
public import Idealize.ShloMosaic.Lib.Claim

@[expose] public section

noncomputable section

namespace Cert.KernelIdeal.Shuffle

open Idealize.ShloMosaic Idealize.ShloMosaic.TcCoe Cert.KernelIdeal Cert.KernelIdeal.Gen Idealize.SL.Sem
open Idealize.ShloMosaic.Pipeline (Dat)

/-- What the region writes, from its first operand: at group `g`, row `h`, half `i`, column `w` and lane
    `q = 64 j + 2 z + k`, element `z` of row `32 h + w` of plane `2 j + k` of half `i` of group `g`. -/
def shuffled (x : Vec Ideal S128x2x4x1024x32 .f32) : Vec Ideal S128x32x2x32x128 .f32 := fun y =>
  x (ix5 ⟨(y 0).val, (y 0).isLt⟩ ⟨(y 2).val, (y 2).isLt⟩
    ⟨(y 4).val / 64 * 2 + (y 4).val % 2, by have : (y 4).val < 128 := (y 4).isLt; omega⟩
    ⟨(y 1).val * 32 + (y 3).val, by have : (y 1).val < 32 := (y 1).isLt; have : (y 3).val < 32 := (y 3).isLt; omega⟩
    ⟨(y 4).val % 64 / 2, by have : (y 4).val < 128 := (y 4).isLt; omega⟩)

variable (m : (ℓ : Loc nD τ sig) → Buf (Elt Ideal) ℓ) (ρ : Dev nD → PrngReg)

/-- The two lines before the region, over any table: what each leaves in its buffer. -/
theorem entry_lines (c : Dev nD) (T : Vec Ideal S128x128 .f32) (V₁ : Valuation τ sig (Elt Ideal))
    (h₁ : V₁ = StableHlo.after [StableHlo.nullary main_cst T,
        StableHlo.reshape main_arg0 main_v0 (rfl : (.f32 : EltTy) = .f32) shapeCasts_S2x512x32x32x32_S128x2x4x1024x32]
      (fun b => m ((c : Dev nD), b))) :
    V₁ (Proc.devRef .tc main_cst) = T
      ∧ V₁ (Proc.devRef .tc main_v0) = shapeCast S128x2x4x1024x32 (m ((c : Thread nD τ).loc main_arg0))
          shapeCasts_S2x512x32x32x32_S128x2x4x1024x32 := by
  subst h₁
  constructor <;> after_results <;> rfl

/-- The region's second operand is the table. -/
theorem entry_table (c : Dev nD) : V m c main_cst = table := (entry_lines m c table _ rfl).1

/-- The region's first operand is the argument, reshaped. -/
theorem entry_planes (c : Dev nD) :
    V m c main_v0 = shapeCast S128x2x4x1024x32 (m ((c : Thread nD τ).loc main_arg0)) shapeCasts_S2x512x32x32x32_S128x2x4x1024x32 :=
  (entry_lines m c table _ rfl).2

/-- Where each window's block lies at a point. -/
theorem idx0 : ∀ t : Fin cfg0.N, win0_0.index t = ![t.val / 2, t.val % 2, 0, 0, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val / 2, 0, t.val % 2, 0, 0] :=
  (by decide +kernel : ∀ t : Fin grid0.N, _)

/-- The second operand's block is the whole table at every point. -/
theorem block_table (c : Dev nD) (t : Fin cfg0.N) : iblk m c 1 t = table := by
  rw [← entry_table m c]
  blk_ext! [iblk, idx1 t]

/-- The first operand's block at point `t` is half `t % 2` of group `t / 2`. -/
theorem block_planes (c : Dev nD) (t : Fin cfg0.N) (a : Fin 4) (r : Fin 1024) (z : Fin 32) :
    iblk m c 0 t (ix5 (n0 := 1) (n1 := 1) (n2 := 4) (n3 := 1024) (n4 := 32) 0 0 a r z)
      = V m c main_v0 (ix5 (n0 := 128) (n1 := 2) (n2 := 4) (n3 := 1024) (n4 := 32)
          ⟨t.val / 2, by have : t.val < 256 := t.isLt; omega⟩ ⟨t.val % 2, by omega⟩ a r z) := by
  unfold iblk
  change V m c main_v0 _ = _
  generalize V m c main_v0 = X
  congr 1
  blk_ext! [idx0 t]

/-- After the last point the result array is the shuffled operand. -/
theorem final (c : Dev nD) : (dats m 0 c).arrAt 2 cfg0.N = shuffled (V m c main_v0) := by
  refine (dats m 0 c).arrAt_eq_of_covers 2 _ (by decide +kernel) fun t hf y => ?_
  blk_simp
  rw [after0_2]
  frame_out
  rw [block_table]
  have h0 : (y 0).val < 1 := (y 0).isLt
  have h2 : (y 2).val < 1 := (y 2).isLt
  have hy : y = ix5 (n0 := 1) (n1 := 32) (n2 := 1) (n3 := 32) (n4 := 128) 0 (y 1) 0 (y 3) (y 4) := by
    funext a
    fin_cases a
    · exact Fin.ext (by change (y 0).val = 0; omega)
    · rfl
    · exact Fin.ext (by change (y 2).val = 0; omega)
    · rfl
    · rfl
  rw [hy]
  refine (pay_apply (iblk m c 0 t) (y 1) (y 3) (y 4)).trans ?_
  rw [block_planes]
  generalize V m c main_v0 = X
  unfold shuffled
  congr 1
  blk_ext! [idx2 t]

end Cert.KernelIdeal.Shuffle

end
-- ==== Proof.Equation.lean ====
/- The kernel's result and the reference's are the same rearrangement of the argument: each is read at an index
   `(b, C, H, W, Z)`, and both are one element of the argument. -/
module

public import proofs.«01_k».proof.Proof.Array
public import proofs.«01_k».proof.Proof.Gen.ReferenceIdeal
public import Idealize.ShloMosaic.Lib.Pointwise

@[expose] public section

noncomputable section

namespace Cert.KernelIdeal.Shuffle

open Idealize.ShloMosaic Cert.KernelIdeal Cert.KernelIdeal.Facts₀

/-- The reference's reshape, transpose and reshape, as a function of the argument. -/
def reference (x : Vec Ideal S2x512x32x32x32 .f32) : Vec Ideal S2x64x64x64x64 .f32 :=
  shapeCast _ (transpose Cert.ReferenceIdeal.S2x64x32x2x32x2x32x2 [0, 1, 5, 2, 6, 3, 7, 4]
      (shapeCast _ x Cert.ReferenceIdeal.Facts₀.shapeCasts_S2x512x32x32x32_S2x64x2x2x2x32x32x32)
      Cert.ReferenceIdeal.Facts₀.transposes_S2x64x2x2x2x32x32x32_S2x64x32x2x32x2x32x2_0_1_5_2_6_3_7_4)
    Cert.ReferenceIdeal.Facts₀.shapeCasts_S2x64x32x2x32x2x32x2_S2x64x64x64x64

/-- The kernel's reshape, shuffle and reshape, as a function of the argument. -/
def result (x : Vec Ideal S2x512x32x32x32 .f32) : Vec Ideal S2x64x64x64x64 .f32 :=
  shapeCast _ (shuffled (shapeCast _ x shapeCasts_S2x512x32x32x32_S128x2x4x1024x32)) shapeCasts_S128x32x2x32x128_S2x64x64x64x64

/-- The reference at `(b, C, H, W, Z)`: channel `8 C + 4 (H % 2) + 2 (W % 2) + Z % 2` of the argument at the halved
    coordinates. -/
theorem reference_apply (x : Vec Ideal S2x512x32x32x32 .f32) (b : Fin 2) (C H W Z : Fin 64) :
    reference x (ix5 b C H W Z)
      = x (ix5 b ⟨C.val * 8 + H.val % 2 * 4 + W.val % 2 * 2 + Z.val % 2, by omega⟩ ⟨H.val / 2, by omega⟩ ⟨W.val / 2, by omega⟩
          ⟨Z.val / 2, by omega⟩) := by
  pointwise [reference]

/-- The reshape before the region, at an index. -/
theorem planes_apply (x : Vec Ideal S2x512x32x32x32 .f32) (g : Fin 128) (i : Fin 2) (p : Fin 4) (r : Fin 1024) (z : Fin 32) :
    shapeCast S128x2x4x1024x32 x shapeCasts_S2x512x32x32x32_S128x2x4x1024x32 (ix5 g i p r z)
      = x (ix5 ⟨g.val / 64, by omega⟩ ⟨g.val % 64 * 8 + i.val * 4 + p.val, by omega⟩ ⟨r.val / 32, by omega⟩
          ⟨r.val % 32, by omega⟩ z) := by
  pointwise

/-- The reshape after the region, at an index. -/
theorem out_apply (y : Vec Ideal S128x32x2x32x128 .f32) (b : Fin 2) (C H W Z : Fin 64) :
    shapeCast S2x64x64x64x64 y shapeCasts_S128x32x2x32x128_S2x64x64x64x64 (ix5 b C H W Z)
      = y (ix5 ⟨b.val * 64 + C.val, by omega⟩ ⟨H.val / 2, by omega⟩ ⟨H.val % 2, by omega⟩ ⟨W.val / 2, by omega⟩
          ⟨W.val % 2 * 64 + Z.val, by omega⟩) := by
  pointwise

/-- The kernel at `(b, C, H, W, Z)`: the same element as the reference's. -/
theorem result_apply (x : Vec Ideal S2x512x32x32x32 .f32) (b : Fin 2) (C H W Z : Fin 64) :
    result x (ix5 b C H W Z) = reference x (ix5 b C H W Z) := by
  rw [reference_apply]
  unfold result
  rw [out_apply]
  refine (planes_apply x _ _ _ _ _).trans ?_
  congr 1
  congr 1 <;> apply Fin.ext <;> dsimp only [ix5] <;> omega

/-- The kernel's function and the reference's are equal on every argument, infinite elements included. -/
theorem result_eq (x : Vec Ideal S2x512x32x32x32 .f32) : result x = reference x := by
  funext j
  have hj : j = ix5 (n0 := 2) (n1 := 64) (n2 := 64) (n3 := 64) (n4 := 64) (j 0) (j 1) (j 2) (j 3) (j 4) := by
    funext a
    fin_cases a <;> rfl
  rw [hj]
  exact result_apply x (j 0) (j 1) (j 2) (j 3) (j 4)

end Cert.KernelIdeal.Shuffle

end
-- ==== Proof.Run.lean ====
/- The two runs, side by side. -/
module

public import proofs.«01_k».proof.Defs
public import proofs.«01_k».proof.Proof.Equation
public import proofs.«01_k».proof.Proof.Gen.ReferenceIdeal.Run

@[expose] public section

noncomputable section

namespace Cert.KernelIdeal.Shuffle

open Idealize.ShloMosaic Idealize.ShloMosaic.TcCoe Cert.KernelIdeal Cert.KernelIdeal.Gen Idealize.SL.Sem

variable (m : (ℓ : Loc nD τ sig) → Buf (Elt Ideal) ℓ) (ρ : Dev nD → PrngReg)

/-- After the region the program reshapes the region's result array. -/
theorem exit_out (c : Dev nD) :
    Pipeline.afterTail₀ cfgs (dats m) 0 (V0 m) [hostOps1] c main_v2 = result (m ((c : Thread nD τ).loc main_arg0)) := by
  have hA : Pipeline.withArrays spec0 c (V0 m c) (fun w => (dats m 0 c).arrAt w cfg0.N) (Proc.devRef .tc main_v1)
      = shuffled (shapeCast _ (m ((c : Thread nD τ).loc main_arg0)) shapeCasts_S2x512x32x32x32_S128x2x4x1024x32) :=
    (Pipeline.withArrays_arr spec0 (by decide) c (V0 m c) (fun w => (dats m 0 c).arrAt w cfg0.N) 2).trans
      ((final m c).trans (by rw [entry_planes]))
  unfold Pipeline.afterTail₀ result
  rw [← hA]
  generalize Pipeline.withArrays spec0 c (V0 m c) (fun w => (dats m 0 c).arrAt w cfg0.N) = W
  change StableHlo.after [StableHlo.reshape main_v1 main_v2 (rfl : (.f32 : EltTy) = .f32) shapeCasts_S128x32x2x32x128_S2x64x64x64x64]
    W (Proc.devRef .tc main_v2) = _
  after_results
  rfl

/-- From any memory every execution of the kernel's program ends with the result holding `result` of the argument, and
    the argument unchanged. -/
theorem run : θ_run (defs (F := Ideal)) (onTc (τ := τ) (main (F := Ideal))) ⟨m, fun _ => 0, ρ⟩ fun r => ∀ c : Dev nD,
    r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (exit_out m c),
      ((h c).2 main_arg0 (Pipeline.mem_restRefs_of main_arg0 (by decide) (by decide))).trans (W_main_arg0 m (dats m) c)⟩)
    (run_main m ρ)

/-- From memories that agree on the argument, the kernel's program and the reference end with equal results. -/
theorem algebraic : Cert.algebraic_KernelIdeal_ReferenceIdeal := by
  intro m ρ m' ρ' _ hagree
  refine ⟨fun c => result (m ((c.tc : Thread nD τ).loc main_arg0)), run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (result_eq _).symm

end Cert.KernelIdeal.Shuffle

namespace Cert.Proof

open Idealize.ShloMosaic Idealize.SL.Sem

/-- The reference ends with its argument unchanged; it declares no semaphore, so every counter is zero. -/
theorem quiescent_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.lean ====
/- The claim, assembled: the three frames, the idealization, and the equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import Idealize.ShloMosaic.Adequacy
public import Idealize.ShloMosaic.Init

@[expose] public section

noncomputable section

namespace Cert.Proof

open Idealize.ShloMosaic Idealize.SL.Sem Cert.Kernel

/-- Everything that is claimed of the kernel, its idealization and the reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial,
  Cert.KernelIdeal.Shuffle.algebraic⟩

end Cert.Proof

end
